-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512 : Shape := ⟨1, ![512]⟩
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  bcast_S_S512 : S_.BroadcastsInDim S512 (![] : Fin 0 → Fin S512.rank)

variable [Facts]

def fn {F : FTy → Type} [FloatOps F] (main_arg0 : FVec F S512 .f32) (main_arg1 : FVec F S512 .f32) (main_arg2 : FVec F S32x512x512 .f32) (main_arg3 : FVec F S512 .f32) (main_arg4 : FVec F S512 .f32) : IVec S512 1 × IVec S512 1 × IVec S32x512x512 1 × IVec S512 1 × IVec S512 1 :=
  let main_v0 : FVec F S512 .f32 := sitofp .f32 (iotaInDim S512 32 0)
  let main_v1 : IVec S512 1 := cmpf .oeq main_arg0 main_v0
  let main_v2 : IVec S512 1 := cmpf .oeq main_arg1 main_v0
  let main_v3 : FVec F S32x512x512 .f32 := Host.absf main_arg2
  let main_cst : FVec F S_ .f32 := constant S_ .f32 0x7F800000#32
  let main_v4 : FVec F S32x512x512 .f32 := broadcastInDim S32x512x512 ![] bcast_S_S32x512x512 main_cst
  let main_v5 : IVec S32x512x512 1 := cmpf .olt main_v3 main_v4
  let main_cst_0 : FVec F S_ .f32 := constant S_ .f32 0x43FF0000#32
  let main_v6 : FVec F S512 .f32 := broadcastInDim S512 ![] bcast_S_S512 main_cst_0
  let main_v7 : IVec S512 1 := cmpf .ole main_arg3 main_v6
  let main_cst_1 : FVec F S_ .f32 := constant S_ .f32 0xFF800000#32
  let main_v8 : FVec F S512 .f32 := broadcastInDim S512 ![] bcast_S_S512 main_cst_1
  let main_v9 : IVec S512 1 := cmpf .ogt main_arg3 main_v8
  let main_v10 : IVec S512 1 := andi main_v7 main_v9
  let main_cst_2 : FVec F S_ .f32 := constant S_ .f32 0x43FF0000#32
  let main_v11 : FVec F S512 .f32 := broadcastInDim S512 ![] bcast_S_S512 main_cst_2
  let main_v12 : IVec S512 1 := cmpf .ole main_arg4 main_v11
  let main_cst_3 : FVec F S_ .f32 := constant S_ .f32 0xFF800000#32
  let main_v13 : FVec F S512 .f32 := broadcastInDim S512 ![] bcast_S_S512 main_cst_3
  let main_v14 : IVec S512 1 := cmpf .ogt main_arg4 main_v13
  let main_v15 : IVec S512 1 := andi main_v12 main_v14
  (main_v1, main_v2, main_v5, main_v10, main_v15)
-- ==== Kernel.lean ====
abbrev S512 : Shape := ⟨1, ![512]⟩
abbrev S32x512x512 : Shape := ⟨3, ![32, 512, 512]⟩
abbrev S512x1 : Shape := ⟨2, ![512, 1]⟩
abbrev S1x512x512 : Shape := ⟨3, ![1, 512, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S32x512x512, .f32⟩
  | .hbm, ⟨3, _⟩ => ⟨S512, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S32x512x512, .f32⟩
  | .local _ .vmem, ⟨0, _⟩ => ⟨S512x1, .f32⟩
  | .local _ .vmem, ⟨1, _⟩ => ⟨S512x1, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512 : Shape := ⟨1, ![512]⟩
abbrev S32x512x512 : Shape := ⟨3, ![32, 512, 512]⟩
abbrev S32x512x511 : Shape := ⟨3, ![32, 512, 511]⟩
abbrev S510 : Shape := ⟨1, ![510]⟩
abbrev S1x510 : Shape := ⟨2, ![1, 510]⟩
abbrev S512x1 : Shape := ⟨2, ![512, 1]⟩
abbrev S512x510 : Shape := ⟨2, ![512, 510]⟩
abbrev S_ : Shape := ⟨0, ![]⟩
abbrev S1x1x512 : Shape := ⟨3, ![1, 1, 512]⟩

abbrev nBuf : Space → Nat
  | .hbm => 261
  | .vmem => 0
  | .smem => 0
  | _ => 0

abbrev hbmTy0_0 (i : Nat) : BufTy := match i % 128 with
  | 0 => ⟨S512, .f32⟩
  | 1 => ⟨S512, .f32⟩
  | 2 => ⟨S32x512x512, .f32⟩
  | 3 => ⟨S512, .f32⟩
  | 4 => ⟨S512, .f32⟩
  | 5 => ⟨S32x512x512, .f32⟩
  | 6 => ⟨S32x512x512, .f32⟩
  | 7 => ⟨S32x512x511, .f32⟩
  | 8 => ⟨S32x512x511, .f32⟩
  | 9 => ⟨S32x512x511, .f32⟩
  | 10 => ⟨S32x512x511, .f32⟩
  | 11 => ⟨S32x512x511, .f32⟩
  | 12 => ⟨S32x512x511, .f32⟩
  | 13 => ⟨S32x512x511, .f32⟩
  | 14 => ⟨S32x512x512, .f32⟩
  | 15 => ⟨S32x512x511, .f32⟩
  | 16 => ⟨S32x512x511, .f32⟩
  | 17 => ⟨S32x512x511, .f32⟩
  | 18 => ⟨S32x512x511, .f32⟩
  | 19 => ⟨S32x512x511, .f32⟩
  | 20 => ⟨S32x512x511, .f32⟩
  | 21 => ⟨S32x512x511, .f32⟩
  | 22 => ⟨S510, .f32⟩
  | 23 => ⟨S1x510, .f32⟩
  | 24 => ⟨S512x1, .f32⟩
  | 25 => ⟨S512x510, .f32⟩
  | 26 => ⟨S512x510, .f32⟩
  | 27 => ⟨S512x510, .i1⟩
  | 28 => ⟨S512x510, .i32⟩
  | 29 => ⟨S_, .i32⟩
  | 30 => ⟨S512, .i32⟩
  | 31 => ⟨S512x1, .i32⟩
  | 32 => ⟨S512, .f32⟩
  | 33 => ⟨S_, .i32⟩
  | 34 => ⟨S512, .i32⟩
  | 35 => ⟨S512, .i32⟩
  | 36 => ⟨S512x1, .i32⟩
  | 37 => ⟨S512, .f32⟩
  | 38 => ⟨S512, .f32⟩
  | 39 => ⟨S512, .f32⟩
  | 40 => ⟨S512, .f32⟩
  | 41 => ⟨S_, .f32⟩
  | 42 => ⟨S512, .f32⟩
  | 43 => ⟨S512, .f32⟩
  | 44 => ⟨S512, .f32⟩
  | 45 => ⟨S512, .f32⟩
  | 46 => ⟨S_, .f32⟩
  | 47 => ⟨S512, .f32⟩
  | 48 => ⟨S512, .f32⟩
  | 49 => ⟨S_, .f32⟩
  | 50 => ⟨S512, .f32⟩
  | 51 => ⟨S512, .f32⟩
  | 52 => ⟨S512, .f32⟩
  | 53 => ⟨S_, .f32⟩
  | 54 => ⟨S512, .f32⟩
  | 55 => ⟨S512, .f32⟩
  | 56 => ⟨S512, .f32⟩
  | 57 => ⟨S_, .f32⟩
  | 58 => ⟨S512, .f32⟩
  | 59 => ⟨S512, .f32⟩
  | 60 => ⟨S512, .f32⟩
  | 61 => ⟨S_, .f32⟩
  | 62 => ⟨S512, .f32⟩
  | 63 => ⟨S512, .f32⟩
  | 64 => ⟨S_, .f32⟩
  | 65 => ⟨S512, .f32⟩
  | 66 => ⟨S512, .f32⟩
  | 67 => ⟨S512, .f32⟩
  | 68 => ⟨S_, .f32⟩
  | 69 => ⟨S512, .f32⟩
  | 70 => ⟨S512, .f32⟩
  | 71 => ⟨S512, .f32⟩
  | 72 => ⟨S_, .f32⟩
  | 73 => ⟨S512, .f32⟩
  | 74 => ⟨S512, .f32⟩
  | 75 => ⟨S512, .f32⟩
  | 76 => ⟨S_, .f32⟩
  | 77 => ⟨S512, .f32⟩
  | 78 => ⟨S512, .f32⟩
  | 79 => ⟨S_, .f32⟩
  | 80 => ⟨S512, .f32⟩
  | 81 => ⟨S512, .f32⟩
  | 82 => ⟨S512, .f32⟩
  | 83 => ⟨S_, .f32⟩
  | 84 => ⟨S512, .f32⟩
  | 85 => ⟨S512, .f32⟩
  | 86 => ⟨S512, .f32⟩
  | 87 => ⟨S_, .f32⟩
  | 88 => ⟨S512, .f32⟩
  | 89 => ⟨S512, .f32⟩
  | 90 => ⟨S512, .f32⟩
  | 91 => ⟨S_, .f32⟩
  | 92 => ⟨S512, .f32⟩
  | 93 => ⟨S512, .f32⟩
  | 94 => ⟨S_, .f32⟩
  | 95 => ⟨S512, .f32⟩
  | 96 => ⟨S512, .f32⟩
  | 97 => ⟨S512, .f32⟩
  | 98 => ⟨S_, .f32⟩
  | 99 => ⟨S512, .f32⟩
  | 100 => ⟨S512, .f32⟩
  | 101 => ⟨S512, .f32⟩
  | 102 => ⟨S_, .f32⟩
  | 103 => ⟨S512, .f32⟩
  | 104 => ⟨S512, .f32⟩
  | 105 => ⟨S512, .f32⟩
  | 106 => ⟨S512x1, .i32⟩
  | 107 => ⟨S32x512x512, .f32⟩
  | 108 => ⟨S1x1x512, .f32⟩
  | 109 => ⟨S32x512x512, .f32⟩
  | 110 => ⟨S32x512x512, .f32⟩
  | 111 => ⟨S512x1, .i32⟩
  | 112 => ⟨S32x512x512, .f32⟩
  | 113 => ⟨S1x1x512, .f32⟩
  | 114 => ⟨S32x512x512, .f32⟩
  | 115 => ⟨S32x512x512, .f32⟩
  | 116 => ⟨S1x1x512, .f32⟩
  | 117 => ⟨S32x512x512, .f32⟩
  | 118 => ⟨S32x512x512, .f32⟩
  | 119 => ⟨S32x512x512, .f32⟩
  | 120 => ⟨S_, .i32⟩
  | 121 => ⟨S512, .i32⟩
  | 122 => ⟨S512, .i32⟩
  | 123 => ⟨S512x1, .i32⟩
  | 124 => ⟨S32x512x512, .f32⟩
  | 125 => ⟨S1x1x512, .f32⟩
  | 126 => ⟨S32x512x512, .f32⟩
  | 127 => ⟨S32x512x512, .f32⟩
  | _ => ⟨S512, .f32⟩

abbrev hbmTy0_1 (i : Nat) : BufTy := match i % 128 with
  | 0 => ⟨S32x512x512, .f32⟩
  | 1 => ⟨S_, .i32⟩
  | 2 => ⟨S512, .i32⟩
  | 3 => ⟨S512, .i32⟩
  | 4 => ⟨S512x1, .i32⟩
  | 5 => ⟨S32x512x512, .f32⟩
  | 6 => ⟨S1x1x512, .f32⟩
  | 7 => ⟨S32x512x512, .f32⟩
  | 8 => ⟨S32x512x512, .f32⟩
  | 9 => ⟨S1x1x512, .f32⟩
  | 10 => ⟨S32x512x512, .f32⟩
  | 11 => ⟨S32x512x512, .f32⟩
  | 12 => ⟨S32x512x512, .f32⟩
  | 13 => ⟨S510, .f32⟩
  | 14 => ⟨S1x510, .f32⟩
  | 15 => ⟨S512x1, .f32⟩
  | 16 => ⟨S512x510, .f32⟩
  | 17 => ⟨S512x510, .f32⟩
  | 18 => ⟨S512x510, .i1⟩
  | 19 => ⟨S512x510, .i32⟩
  | 20 => ⟨S_, .i32⟩
  | 21 => ⟨S512, .i32⟩
  | 22 => ⟨S512x1, .i32⟩
  | 23 => ⟨S512, .f32⟩
  | 24 => ⟨S_, .i32⟩
  | 25 => ⟨S512, .i32⟩
  | 26 => ⟨S512, .i32⟩
  | 27 => ⟨S512x1, .i32⟩
  | 28 => ⟨S512, .f32⟩
  | 29 => ⟨S512, .f32⟩
  | 30 => ⟨S512, .f32⟩
  | 31 => ⟨S512, .f32⟩
  | 32 => ⟨S_, .f32⟩
  | 33 => ⟨S512, .f32⟩
  | 34 => ⟨S512, .f32⟩
  | 35 => ⟨S512, .f32⟩
  | 36 => ⟨S512, .f32⟩
  | 37 => ⟨S_, .f32⟩
  | 38 => ⟨S512, .f32⟩
  | 39 => ⟨S512, .f32⟩
  | 40 => ⟨S_, .f32⟩
  | 41 => ⟨S512, .f32⟩
  | 42 => ⟨S512, .f32⟩
  | 43 => ⟨S512, .f32⟩
  | 44 => ⟨S_, .f32⟩
  | 45 => ⟨S512, .f32⟩
  | 46 => ⟨S512, .f32⟩
  | 47 => ⟨S512, .f32⟩
  | 48 => ⟨S_, .f32⟩
  | 49 => ⟨S512, .f32⟩
  | 50 => ⟨S512, .f32⟩
  | 51 => ⟨S512, .f32⟩
  | 52 => ⟨S_, .f32⟩
  | 53 => ⟨S512, .f32⟩
  | 54 => ⟨S512, .f32⟩
  | 55 => ⟨S_, .f32⟩
  | 56 => ⟨S512, .f32⟩
  | 57 => ⟨S512, .f32⟩
  | 58 => ⟨S512, .f32⟩
  | 59 => ⟨S_, .f32⟩
  | 60 => ⟨S512, .f32⟩
  | 61 => ⟨S512, .f32⟩
  | 62 => ⟨S512, .f32⟩
  | 63 => ⟨S_, .f32⟩
  | 64 => ⟨S512, .f32⟩
  | 65 => ⟨S512, .f32⟩
  | 66 => ⟨S512, .f32⟩
  | 67 => ⟨S_, .f32⟩
  | 68 => ⟨S512, .f32⟩
  | 69 => ⟨S512, .f32⟩
  | 70 => ⟨S_, .f32⟩
  | 71 => ⟨S512, .f32⟩
  | 72 => ⟨S512, .f32⟩
  | 73 => ⟨S512, .f32⟩
  | 74 => ⟨S_, .f32⟩
  | 75 => ⟨S512, .f32⟩
  | 76 => ⟨S512, .f32⟩
  | 77 => ⟨S512, .f32⟩
  | 78 => ⟨S_, .f32⟩
  | 79 => ⟨S512, .f32⟩
  | 80 => ⟨S512, .f32⟩
  | 81 => ⟨S512, .f32⟩
  | 82 => ⟨S_, .f32⟩
  | 83 => ⟨S512, .f32⟩
  | 84 => ⟨S512, .f32⟩
  | 85 => ⟨S_, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S512, .f32⟩
  | 93 => ⟨S_, .f32⟩
  | 94 => ⟨S512, .f32⟩
  | 95 => ⟨S512, .f32⟩
  | 96 => ⟨S512, .f32⟩
  | 97 => ⟨S512x1, .i32⟩
  | 98 => ⟨S32x512x512, .f32⟩
  | 99 => ⟨S1x1x512, .f32⟩
  | 100 => ⟨S32x512x512, .f32⟩
  | 101 => ⟨S32x512x512, .f32⟩
  | 102 => ⟨S512x1, .i32⟩
  | 103 => ⟨S32x512x512, .f32⟩
  | 104 => ⟨S1x1x512, .f32⟩
  | 105 => ⟨S32x512x512, .f32⟩
  | 106 => ⟨S32x512x512, .f32⟩
  | 107 => ⟨S1x1x512, .f32⟩
  | 108 => ⟨S32x512x512, .f32⟩
  | 109 => ⟨S32x512x512, .f32⟩
  | 110 => ⟨S32x512x512, .f32⟩
  | 111 => ⟨S_, .i32⟩
  | 112 => ⟨S512, .i32⟩
  | 113 => ⟨S512, .i32⟩
  | 114 => ⟨S512x1, .i32⟩
  | 115 => ⟨S32x512x512, .f32⟩
  | 116 => ⟨S1x1x512, .f32⟩
  | 117 => ⟨S32x512x512, .f32⟩
  | 118 => ⟨S32x512x512, .f32⟩
  | 119 => ⟨S32x512x512, .f32⟩
  | 120 => ⟨S_, .i32⟩
  | 121 => ⟨S512, .i32⟩
  | 122 => ⟨S512, .i32⟩
  | 123 => ⟨S512x1, .i32⟩
  | 124 => ⟨S32x512x512, .f32⟩
  | 125 => ⟨S1x1x512, .f32⟩
  | 126 => ⟨S32x512x512, .f32⟩
  | 127 => ⟨S32x512x512, .f32⟩
  | _ => ⟨S512, .f32⟩

abbrev hbmTy0_2 (i : Nat) : BufTy := match i % 128 with
  | 0 => ⟨S1x1x512, .f32⟩
  | 1 => ⟨S32x512x512, .f32⟩
  | 2 => ⟨S32x512x512, .f32⟩
  | 3 => ⟨S32x512x512, .f32⟩
  | 4 => ⟨S32x512x512, .f32⟩
  | _ => ⟨S512, .f32⟩

abbrev hbmTy (i : Nat) : BufTy := match i / 128 with
  | 0 => hbmTy0_0 i
  | 1 => hbmTy0_1 i
  | 2 => hbmTy0_2 i
  | _ => ⟨S512, .f32⟩

abbrev bufTy : (tb : Table) → Fin (tcTables nBuf tb) → BufTy
  | .hbm, ⟨i, _⟩ => hbmTy i
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_call0_v0 : Ref sig .tc := ⟨.hbm, 31, rfl⟩
abbrev main_v25 : Ref sig .tc := ⟨.hbm, 32, rfl⟩
abbrev main_c_0 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call2_v0 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call3_v0 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_17 : Ref sig .tc := ⟨.hbm, 120, rfl⟩
abbrev main_v92 : Ref sig .tc := ⟨.hbm, 121, rfl⟩
abbrev main_v93 : Ref sig .tc := ⟨.hbm, 122, rfl⟩
abbrev main_call4_v0 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_18 : Ref sig .tc := ⟨.hbm, 129, rfl⟩
abbrev main_v99 : Ref sig .tc := ⟨.hbm, 130, rfl⟩
abbrev main_v100 : Ref sig .tc := ⟨.hbm, 131, rfl⟩
abbrev main_call5_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_19 : Ref sig .tc := ⟨.hbm, 148, rfl⟩
abbrev main_v116 : Ref sig .tc := ⟨.hbm, 149, rfl⟩
abbrev main_call6_v0 : Ref sig .tc := ⟨.hbm, 150, rfl⟩
abbrev main_v117 : Ref sig .tc := ⟨.hbm, 151, rfl⟩
abbrev main_c_20 : Ref sig .tc := ⟨.hbm, 152, rfl⟩
abbrev main_v118 : Ref sig .tc := ⟨.hbm, 153, rfl⟩
abbrev main_v119 : Ref sig .tc := ⟨.hbm, 154, rfl⟩
abbrev main_call7_v0 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_21 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_22 : Ref sig .tc := ⟨.hbm, 165, rfl⟩
abbrev main_v128 : Ref sig .tc := ⟨.hbm, 166, rfl⟩
abbrev main_v129 : Ref sig .tc := ⟨.hbm, 167, rfl⟩
abbrev main_cst_23 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_24 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_25 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_26 : Ref sig .tc := ⟨.hbm, 180, rfl⟩
abbrev main_v139 : Ref sig .tc := ⟨.hbm, 181, rfl⟩
abbrev main_v140 : Ref sig .tc := ⟨.hbm, 182, rfl⟩
abbrev main_cst_27 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_28 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_29 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_30 : Ref sig .tc := ⟨.hbm, 195, rfl⟩
abbrev main_v150 : Ref sig .tc := ⟨.hbm, 196, rfl⟩
abbrev main_v151 : Ref sig .tc := ⟨.hbm, 197, rfl⟩
abbrev main_cst_31 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_32 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_33 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_34 : Ref sig .tc := ⟨.hbm, 210, rfl⟩
abbrev main_v161 : Ref sig .tc := ⟨.hbm, 211, rfl⟩
abbrev main_v162 : Ref sig .tc := ⟨.hbm, 212, rfl⟩
abbrev main_cst_35 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_36 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_37 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_call8_v0 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_call9_v0 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_c_38 : Ref sig .tc := ⟨.hbm, 239, rfl⟩
abbrev main_v184 : Ref sig .tc := ⟨.hbm, 240, rfl⟩
abbrev main_v185 : Ref sig .tc := ⟨.hbm, 241, rfl⟩
abbrev main_call10_v0 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_c_39 : Ref sig .tc := ⟨.hbm, 248, rfl⟩
abbrev main_v191 : Ref sig .tc := ⟨.hbm, 249, rfl⟩
abbrev main_v192 : Ref sig .tc := ⟨.hbm, 250, rfl⟩
abbrev main_call11_v0 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩

abbrev nD : Nat := 1
abbrev τ : Topo := Topo.v7x

variable {F : FTy → Type} [FloatOps F]
-- ==== Proof.KernelBlocks.lean ====
/-
  What the kernel leaves, block by block.

  The first grid point computes two 512x512 tables from the two query vectors and keeps them; every point then
  combines its own image with these tables. This module reads the two tables and the combination back as the
  program's own named pure values, shows that the tables never change after the first point, and names the array the
  whole run leaves.
-/
module

public import proofs.«01_k».proof.Defs
public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Value

variable {F : FTy → Type} [FloatOps F]

/-- The zero offset of a matrix. -/
theorem hz2 : (![0, 0] : Fin 2 → Nat) = fun _ => 0 := funext fun a => by fin_cases a <;> rfl
/-- The zero offset of a stack of matrices. -/
theorem hz3 : (![0, 0, 0] : Fin 3 → Nat) = fun _ => 0 := funext fun a => by fin_cases a <;> rfl

/-- The column numbers of a 512x512 table. -/
abbrev cols : IVec S512x512 32 := iota .tc S512x512 32 [1] iota_S512x512_d1_w32

/-- The table the first point makes of the column `x` of row queries and the column `y` of column queries: the product
    of the column-direction value weights with the row-direction weights. -/
def tableC (x y : Vec F S512x1 .f32) : Vec F S512x512 .f32 :=
  k0_pay2 (k0_pay22 (k0_pay17 y) (k0_pay18 y))
    (k0_pay25 (k0_pay9 x) (k0_pay10 x) (k0_pay11 x) (k0_pay12 x) (k0_pay13 x)) cols
    (k0_pay26 (k0_pay15 y) (k0_pay18 y) (k0_pay19 y) k0_pay20) (k0_pay27 (k0_pay15 y))

/-- The table the first point makes of the column `y` of column queries alone: the slope weights. -/
def tableD (y : Vec F S512x1 .f32) : Vec F S512x512 .f32 :=
  k0_pay1 (k0_pay21 (k0_pay16 y) (k0_pay17 y) (k0_pay18 y)) (k0_pay23 (k0_pay17 y) (k0_pay18 y)) (k0_pay24 (k0_pay15 y)) cols

section cases
variable (c : Dev nD) (i : grid0.Coords) (a1 : Memref sig .tc .vmem S512x1 .f32) (h1 : a1.IsWhole) (a2 : Memref sig .tc .vmem S512x1 .f32) (h2 : a2.IsWhole)
  (a3 : Memref sig .tc .vmem S1x512x512 .f32) (h3 : a3.IsWhole) (a4 : Memref sig .tc .vmem S1x512x512 .f32) (h4 : a4.IsWhole)
  (a5 : Memref sig .tc .vmem S512x512 .f32) (h5 : a5.IsWhole) (a6 : Memref sig .tc .vmem S512x512 .f32) (h6 : a6.IsWhole)

/-- The first point leaves `tableC` in the first kept table. -/
theorem sout_A_0 (hc : cond0_0 i) (x y : Vec F S512x1 .f32) (s : Vec F S1x512x512 .f32) :
    sout0_A_0 c i a1 h1 a2 h2 a3 h3 a4 h4 a5 h5 a6 h6 hc x y s = tableC x y := by
  unfold sout0_A_0
  rw [View.read_writes_eq_canon _ _ _ (scover0_A_0 c i a1 h1 a2 h2 a3 h3 a4 h4 a5 h5 a6 h6 hc x y s)]
  unfold kernelRun0_A
  dsimp only
  sl_unfold_words
  rw [View.canon_unit_zero hz2]
  simp only [View.readAt_eq_ld, h1.read_unread, h2.read_unread, View.ld_unit_zero (S := S512x1) hz2]
  rfl

/-- The first point leaves `tableD` in the second kept table. -/
theorem sout_A_1 (hc : cond0_0 i) (x y : Vec F S512x1 .f32) (s : Vec F S1x512x512 .f32) :
    sout0_A_1 c i a1 h1 a2 h2 a3 h3 a4 h4 a5 h5 a6 h6 hc x y s = tableD y := by
  unfold sout0_A_1
  rw [View.read_writes_eq_canon _ _ _ (scover0_A_1 c i a1 h1 a2 h2 a3 h3 a4 h4 a5 h5 a6 h6 hc x y s)]
  unfold kernelRun0_A
  dsimp only
  sl_unfold_words
  rw [View.canon_unit_zero hz2]
  simp only [View.readAt_eq_ld, h1.read_unread, h2.read_unread, View.ld_unit_zero (S := S512x1) hz2]
  rfl

/-- The first point combines its image with the tables it has just made. -/
theorem out_A (hc : cond0_0 i) (x y : Vec F S512x1 .f32) (s : Vec F S1x512x512 .f32) :
    out0_A_3 c i a1 h1 a2 h2 a3 h3 a4 h4 a5 h5 a6 h6 hc x y s = k0_pay3 s (tableC x y) (tableD y) := by
  unfold out0_A_3
  rw [View.read_writes_eq_canon _ _ _ (cover0_A_3 c i a1 h1 a2 h2 a3 h3 a4 h4 a5 h5 a6 h6 hc x y s)]
  unfold kernelRun0_A
  dsimp only
  sl_unfold_words
  rw [View.canon_unit_zero hz3]
  simp only [View.readAt_eq_ld, h1.read_unread, h2.read_unread, h3.read_unread, View.ld_unit_zero (S := S512x1) hz2,
    View.ld_unit_zero (S := S1x512x512) hz3, View.readCov_unit_zero (S := S512x512) _ hz2]
  rfl

/-- A later point combines its image with the tables it finds. -/
theorem out_B (hc : ¬cond0_0 i) (x y : Vec F S512x1 .f32) (s : Vec F S1x512x512 .f32) (C D : Vec F S512x512 .f32) :
    out0_B_3 c i a1 h1 a2 h2 a3 h3 a4 h4 a5 h5 a6 h6 hc x y s C D = k0_pay3 s C D := by
  unfold out0_B_3
  rw [View.read_writes_eq_canon _ _ _ (cover0_B_3 c i a1 h1 a2 h2 a3 h3 a4 h4 a5 h5 a6 h6 hc x y s C D)]
  unfold kernelRun0_B
  dsimp only
  sl_unfold_words
  rw [View.canon_unit_zero hz3]
  simp only [View.readAt_eq_ld, h3.read_unread, h5.read_unread, h6.read_unread,
    View.ld_unit_zero (S := S1x512x512) hz3, View.ld_unit_zero (S := S512x512) hz2]

end cases

variable (m : (ℓ : Loc nD τ sig) → Buf (Elt F) ℓ) (c : Dev nD)

/-- The row queries as a column. -/
abbrev colX : Vec F S512x1 .f32 := shapeCast S512x1 (m ((c : Thread nD τ).loc main_arg3)) shapeCasts_S512_S512x1

/-- The column queries as a column. -/
abbrev colY : Vec F S512x1 .f32 := shapeCast S512x1 (m ((c : Thread nD τ).loc main_arg4)) shapeCasts_S512_S512x1

/-- The kernel finds the row queries reshaped to a column. -/
theorem V_v0 : V m c main_v0 = colX m c := by
  show StableHlo.after hostOps0 _ _ = _
  unfold hostOps0
  after_results
  rfl

/-- The kernel finds the column queries reshaped to a column. -/
theorem V_v1 : V m c main_v1 = colY m c := by
  show StableHlo.after hostOps0 _ _ = _
  unfold hostOps0
  after_results
  rfl

/-- Every point reads the whole column of row queries. -/
theorem iblk_0 (t : Fin cfg0.N) : iblk m c 0 t = colX m c := by
  funext j
  unfold iblk
  rw [View.read_apply]
  refine Eq.trans ?_ (congrFun (V_v0 m c) j)
  show V m c main_v0 _ = V m c main_v0 j
  congr 1
  funext a
  apply Fin.ext
  match a with
  | ⟨0, _⟩ => show 0 * 512 + 1 * (j 0).val = (j 0).val; omega
  | ⟨1, _⟩ => show 0 * 1 + 1 * (j 1).val = (j 1).val; omega

/-- Every point reads the whole column of column queries. -/
theorem iblk_1 (t : Fin cfg0.N) : iblk m c 1 t = colY m c := by
  funext j
  unfold iblk
  rw [View.read_apply]
  refine Eq.trans ?_ (congrFun (V_v1 m c) j)
  show V m c main_v1 _ = V m c main_v1 j
  congr 1
  funext a
  apply Fin.ext
  match a with
  | ⟨0, _⟩ => show 0 * 512 + 1 * (j 0).val = (j 0).val; omega
  | ⟨1, _⟩ => show 0 * 1 + 1 * (j 1).val = (j 1).val; omega

/-- Point `t` reads image `t`. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- After every point the two kept tables are the first point's, and the output block is the point's image combined
    with them. -/
theorem outs (n : ℕ) (h : n < cfg0.N) :
    outsAt0 m c n h = (k0_pay3 (iblk m c 2 ⟨n, h⟩) (tableC (colX m c) (colY m c)) (tableD (colY m c)),
      tableC (colX m c) (colY m c), tableD (colY m c)) := by
  have hN : cfg0.N = 32 := N_0
  induction n with
  | zero =>
    refine (outsAt0_A m c ⟨0, h⟩ rfl).trans ?_
    rw [out_A, sout_A_0, sout_A_1, iblk_0, iblk_1]
  | succ n ih =>
    have hB : ¬(⟨n + 1, h⟩ : Fin cfg0.N).val % 32 = 0 := by dsimp only; omega
    refine (outsAt0_B m c ⟨n + 1, h⟩ hB).trans ?_
    have e : outsAt0 m c ((⟨n + 1, h⟩ : Fin cfg0.N).val - 1) (Nat.lt_of_le_of_lt (Nat.sub_le _ _) h) = _ := ih (Nat.lt_of_succ_lt h)
    rw [e, out_B]
    rfl

/-- Entry `j` of the run's result is entry `(j 1, j 2)` of image `j 0` combined with the two tables. -/
theorem result_apply (j : S32x512x512.Idx) (s : Vec F S1x512x512 .f32)
    (hs : ∀ y, s y = m ((c : Thread nD τ).loc main_arg2) (fun a => match a with
      | ⟨0, _⟩ => j 0
      | ⟨1, _⟩ => y 1
      | ⟨2, _⟩ => y 2)) :
    G3 m c j = k0_pay3 s (tableC (colX m c) (colY m c)) (tableD (colY m c)) (fun a => match a with
      | ⟨0, _⟩ => (0 : Fin 1)
      | ⟨1, _⟩ => j 1
      | ⟨2, _⟩ => j 2) := by
  have hN : cfg0.N = 32 := N_0
  have hj0 : (j 0).val < 32 := (j 0).isLt
  have hj1 : (j 1).val < 512 := (j 1).isLt
  have hj2 : (j 2).val < 512 := (j 2).isLt
  have hp : pt3Of j = (j 0).val := by
    show 1 * ((j 0).val / 1 - 0) + 1 * ((j 1).val / 512 - 0) + 1 * ((j 2).val / 512 - 0) = _
    omega
  have hlt : pt3Of j < cfg0.N := by rw [hp, hN]; exact hj0
  unfold G3
  rw [dif_pos hlt, ← outsAt0_sweep m c (pt3Of j) hlt, outs]
  have hl : loc3Of j = (fun a => match a with
      | ⟨0, _⟩ => (0 : Fin 1)
      | ⟨1, _⟩ => j 1
      | ⟨2, _⟩ => j 2) := by
    funext a
    apply Fin.ext
    match a with
    | ⟨0, _⟩ => show (j 0).val % 1 = 0; omega
    | ⟨1, _⟩ => show (j 1).val % 512 = (j 1).val; omega
    | ⟨2, _⟩ => show (j 2).val % 512 = (j 2).val; omega
  have hb : iblk m c 2 ⟨pt3Of j, hlt⟩ = s := by
    funext y
    have hy0 : (y 0).val < 1 := (y 0).isLt
    obtain ⟨e0, e1, e2⟩ := idx2 ⟨pt3Of j, hlt⟩
    unfold iblk
    rw [View.read_apply]
    refine Eq.trans ?_ (hs y).symm
    rw [← V_main_arg2 m c]
    show V m c main_arg2 _ = V m c main_arg2 _
    congr 1
    funext a
    apply Fin.ext
    match a with
    | ⟨0, _⟩ =>
      show win0_2.index ⟨pt3Of j, hlt⟩ (0 : Fin 3) * 1 + 1 * (y 0).val = (j 0).val
      rw [e0]; dsimp only; omega
    | ⟨1, _⟩ => show win0_2.index ⟨pt3Of j, hlt⟩ (1 : Fin 3) * 512 + 1 * (y 1).val = (y 1).val; rw [e1]; omega
    | ⟨2, _⟩ => show win0_2.index ⟨pt3Of j, hlt⟩ (2 : Fin 3) * 512 + 1 * (y 2).val = (y 2).val; rw [e2]; omega
  show k0_pay3 (iblk m c 2 ⟨pt3Of j, hlt⟩) _ _ (loc3Of j) = _
  rw [hl, hb]

end Cert.KernelIdeal.Blocks
-- ==== Proof.Hermite.lean ====
/-
  The arithmetic of one-dimensional cubic Hermite interpolation on the knots 0, 1, 2, …, over the real numbers.

  A query `r` falls in interval `cell r`, at distance `frac r` from that interval's left knot. Nothing here names a
  program: the number of the interval is computed once by rounding and once by counting knots, and the two-dimensional
  interpolation is computed once as two products with tables of weights and once by taking entries.
-/
module

public import Idealize.ShloMosaic.PureOps.Ideal
public import Idealize.ShloMosaic.Lib.StableHlo.Predicate

@[expose] public section

noncomputable section

namespace Cert.Hermite

open Idealize.ShloMosaic

/-! ## The interval of a query -/

/-- The number of the interval holding the query `r`: the last knot strictly below `r`, and 0 for a query that has no
    knot below it. -/
def cell (r : ℝ) : ℕ := (⌈r⌉ - 1).toNat

/-- The distance of the query `r` from its interval's left knot. -/
def frac (r : ℝ) : ℝ := r - (cell r : ℝ)

/-- A query of at most 510 falls in interval 509 or before. -/
theorem cell_le {r : ℝ} (h : r ≤ 510) : cell r ≤ 509 := by
  have h1 : ⌈r⌉ ≤ 510 := Int.ceil_le.mpr (by exact_mod_cast h)
  unfold cell
  omega

/-- Knot `k + 1` is below the query exactly when `k` is below the query's interval number. -/
theorem knot_lt_iff (r : ℝ) (k : ℕ) : ((k + 1 : ℕ) : ℝ) < r ↔ k < cell r := by
  have h : ((k + 1 : ℕ) : ℝ) < r ↔ ((k + 1 : ℕ) : ℤ) < ⌈r⌉ := by
    rw [Int.lt_ceil]; norm_cast
  rw [h]
  unfold cell
  omega

/-- The interval number is the number of inner knots (1 to 510) below the query. -/
theorem card_knots {r : ℝ} (h : r ≤ 510) :
    (Finset.univ.filter fun k : Fin 510 => ((k.val + 1 : ℕ) : ℝ) < r).card = cell r := by
  have hc := cell_le h
  rw [Finset.card_filter]
  simp only [knot_lt_iff]
  rw [Fin.sum_univ_eq_sum_range (fun k => if k < cell r then 1 else 0) 510, ← Finset.card_filter]
  have : (Finset.range 510).filter (fun k => k < cell r) = Finset.range (cell r) := by
    ext k; simp only [Finset.mem_filter, Finset.mem_range]; omega
  rw [this, Finset.card_range]

/-- Rounding up, taking one away and cutting off at zero gives the interval number. -/
theorem cell_rounded (r : ℝ) : max (((⌈r⌉ : ℝ)) - 1) 0 = (cell r : ℝ) := by
  have h : ((cell r : ℤ) : ℝ) = ((max (⌈r⌉ - 1) 0 : ℤ) : ℝ) := by
    congr 1; unfold cell; omega
  rw [show (cell r : ℝ) = ((cell r : ℤ) : ℝ) by norm_cast, h]
  push_cast
  rfl

/-- A small natural number read as a 32-bit integer is its word. -/
theorem fptosi_nat (n : ℕ) (h : n ≤ 1000) : Ideal.fptosi 32 ((n : ℝ) : EReal) = BitVec.ofNat 32 n := by
  have h0 : (0 : ℝ) ≤ (n : ℝ) := Nat.cast_nonneg n
  have e : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos h0, Int.floor_natCast]
    push_cast
    omega
  unfold Ideal.fptosi
  rw [e]
  exact BitVec.ofInt_natCast ..

/-! ## The four Hermite polynomials -/

/-- Weight of the left value. -/
def g0 (t : ℝ) : ℝ := 1 - 3 * (t * t) + 2 * (t * t * t)
/-- Weight of the left slope. -/
def g1 (t : ℝ) : ℝ := t - 2 * (t * t) + t * t * t
/-- Weight of the right value. -/
def g2 (t : ℝ) : ℝ := 3 * (t * t) - 2 * (t * t * t)
/-- Weight of the right slope. -/
def g3 (t : ℝ) : ℝ := t * t * t - t * t

/-! ## Tables of weights -/

/-- `a` at column `n`, zero elsewhere. -/
def spike (n : ℕ) (a : ℝ) (k : Fin 512) : ℝ := if k.val = n then a else 0

/-- A line of 512 values continued by zero. -/
def ext (f : Fin 512 → ℝ) (n : ℕ) : ℝ := if h : n < 512 then f ⟨n, h⟩ else 0

/-- Within the line the continued line is the line. -/
theorem ext_of_lt (f : Fin 512 → ℝ) {n : ℕ} (h : n < 512) : ext f n = f ⟨n, h⟩ := dif_pos h

/-- A sum against a single spike picks one entry. -/
theorem sum_spike (n : ℕ) (h : n < 512) (a : ℝ) (f : Fin 512 → ℝ) : ∑ k, spike n a k * f k = a * ext f n := by
  rw [ext_of_lt f h, Finset.sum_eq_single (⟨n, h⟩ : Fin 512)]
  · simp [spike]
  · intro k _ hk
    have : k.val ≠ n := fun e => hk (Fin.ext e)
    simp [spike, this]
  · simp

/-- Value and slope weights of the query `r` gathered on the three knots they touch: the slope of an interval is the
    difference of its end values. -/
def wx (r : ℝ) (k : Fin 512) : ℝ :=
  spike (cell r) (g0 (frac r) - g1 (frac r)) k + spike (cell r + 1) (g1 (frac r) + g2 (frac r) - g3 (frac r)) k
    + spike (cell r + 2) (g3 (frac r)) k

/-- Value weights alone. -/
def wv (r : ℝ) (k : Fin 512) : ℝ := spike (cell r) (g0 (frac r)) k + spike (cell r + 1) (g2 (frac r)) k

/-- Slope weights alone, gathered on the three knots they touch. -/
def ws (r : ℝ) (k : Fin 512) : ℝ :=
  spike (cell r) (0 - g1 (frac r)) k + spike (cell r + 1) (g1 (frac r) - g3 (frac r)) k + spike (cell r + 2) (g3 (frac r)) k

/-- Interpolation of the line `f` of values with the slopes `d`, at the query `r`. -/
def interp (f d : ℕ → ℝ) (r : ℝ) : ℝ :=
  g0 (frac r) * f (cell r) + g1 (frac r) * d (cell r) + g2 (frac r) * f (cell r + 1) + g3 (frac r) * d (cell r + 1)

/-- The slopes of the intervals of a line of values. -/
def slope (f : ℕ → ℝ) (n : ℕ) : ℝ := f (n + 1) - f n

/-- The gathered weights applied to a line of values interpolate it. -/
theorem sum_wx {r : ℝ} (h : r ≤ 510) (f : Fin 512 → ℝ) : ∑ k, wx r k * f k = interp (ext f) (slope (ext f)) r := by
  have hc := cell_le h
  simp only [wx, add_mul, Finset.sum_add_distrib]
  rw [sum_spike _ (by omega), sum_spike _ (by omega), sum_spike _ (by omega)]
  simp only [interp, slope]
  ring

/-- Value weights applied to a line `f` plus gathered slope weights applied to a line `e` interpolate the values `f`
    with the slopes of `e`. -/
theorem sum_wv_ws {r : ℝ} (h : r ≤ 510) (f e : Fin 512 → ℝ) :
    ∑ k, wv r k * f k + ∑ k, ws r k * e k = interp (ext f) (slope (ext e)) r := by
  have hc := cell_le h
  simp only [wv, ws, add_mul, Finset.sum_add_distrib]
  rw [sum_spike _ (by omega), sum_spike _ (by omega), sum_spike _ (by omega), sum_spike _ (by omega), sum_spike _ (by omega)]
  simp only [interp, slope]
  ring

/-- THE TWO-DIMENSIONAL IDENTITY. A row of the product of the column-direction value weights with the row-direction
    gathered weights, applied to row `b` of the image, plus the column-direction slope weights applied to column `b`, is
    the interpolation in the column direction, at the query `y`, of the lines interpolated in the row direction at
    the queries `x`, with the slopes of column `b`. -/
theorem two_pass {x : Fin 512 → ℝ} (hx : ∀ j, x j ≤ 510) {y : ℝ} (hy : y ≤ 510) (row col : Fin 512 → ℝ) :
    ∑ k, (∑ j, wv y j * wx (x j) k) * row k + ∑ k, ws y k * col k
      = interp (ext fun j => interp (ext row) (slope (ext row)) (x j)) (slope (ext col)) y := by
  rw [← sum_wv_ws hy]
  congr 1
  simp only [Finset.sum_mul]
  rw [Finset.sum_comm]
  refine Finset.sum_congr rfl fun j _ => ?_
  rw [← sum_wx (hx j), Finset.mul_sum]
  exact Finset.sum_congr rfl fun k _ => mul_assoc _ _ _

/-! ## Words of the constants both programs use -/

/-- The word of the constant 2. -/
theorem bits_two : Ideal.ofBits .f32 0x40000000#32 = ((2 : ℝ) : EReal) := by
  simp [Ideal.ofBits, Ideal.ieee, -EReal.coe_mul]; norm_num

/-- The word of the constant 3. -/
theorem bits_three : Ideal.ofBits .f32 0x40400000#32 = ((3 : ℝ) : EReal) := by
  simp [Ideal.ofBits, Ideal.ieee, -EReal.coe_mul]; norm_num

/-- The word of the constant −1. -/
theorem bits_neg_one : Ideal.ofBits .f32 0xBF800000#32 = ((-1 : ℝ) : EReal) := by
  simp [Ideal.ofBits, Ideal.ieee, -EReal.coe_mul, -EReal.coe_neg]; norm_num

/-- The word of the constant −2. -/
theorem bits_neg_two : Ideal.ofBits .f32 0xC0000000#32 = ((-2 : ℝ) : EReal) := by
  simp [Ideal.ofBits, Ideal.ieee, -EReal.coe_mul, -EReal.coe_neg]; norm_num

/-- The word of the constant −3. -/
theorem bits_neg_three : Ideal.ofBits .f32 0xC0400000#32 = ((-3 : ℝ) : EReal) := by
  simp [Ideal.ofBits, Ideal.ieee, -EReal.coe_mul, -EReal.coe_neg]; norm_num

end Cert.Hermite

end
-- ==== Proof.Tables.lean ====
/-
  The kernel's tables and its combination, read entry by entry as real numbers.

  The queries are real numbers of at most 510 and the image's entries are real, so that every value the kernel computes
  is a real number and its two tables are the weights of `Hermite`.
-/
module

public import proofs.«01_k».proof.Proof.KernelBlocks
public import proofs.«01_k».proof.Proof.Hermite
public import Idealize.ShloMosaic.Lib.Pointwise
public import Idealize.ShloMosaic.Lib.IdealHost
public import Idealize.ShloMosaic.Lib.ValueIdx

@[expose] public section

set_option maxRecDepth 16384

noncomputable section

namespace Cert.KernelIdeal.Tables

open Idealize.ShloMosaic Idealize.ShloMosaic.TcCoe Idealize.SL.Sem
open Idealize.ShloMosaic.ValueIdx (select_one select_zero)
open Cert.KernelIdeal Cert.KernelIdeal.Gen Cert.KernelIdeal.Blocks Cert.Hermite

/-- A choice between a real number and zero is the real number chosen. -/
theorem select_coe (p : Prop) [Decidable p] (c : BitVec 1) (h : c = BitVec.ofBool (decide p)) (a : ℝ) :
    Scalar.select c ((a : ℝ) : EReal) 0 = (((if p then a else 0) : ℝ) : EReal) := by
  subst h
  by_cases hp : p <;> simp [hp, Scalar.select]

/-- Two small numbers are equal exactly when their 32-bit words are. -/
theorem cmpi_words (a b : ℕ) (ha : a < 4294967296) (hb : b < 4294967296) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simpa [BitVec.toNat_ofNat, Nat.mod_eq_of_lt ha, Nat.mod_eq_of_lt hb] using this
    · rintro rfl; rfl
  by_cases h : a = b
  · subst h; simp [IntOp.cmpi]
  · have h' : ¬ BitVec.ofNat 32 a = BitVec.ofNat 32 b := fun e => h (this.1 e)
    have hf : (BitVec.ofNat 32 a == BitVec.ofNat 32 b) = false := by simpa using h'
    simp [IntOp.cmpi, h, hf]

/-- A chosen entry of a table's row is a spike. -/
theorem spike_word (n : ℕ) (hn : n < 1000) (k : Fin 512) (a : ℝ) :
    Scalar.select (IntOp.cmpi .eq (BitVec.ofNat 32 k.val) (BitVec.ofNat 32 n)) ((a : ℝ) : EReal) 0
      = ((spike n a k : ℝ) : EReal) := by
  rw [select_coe _ _ (cmpi_words _ _ (by omega) (by omega))]
  rfl

section column

variable (v : Vec Ideal S512x1 .f32) (q : Fin 512 → ℝ) (hv : ∀ j, v (ix2 j 0) = ((q j : ℝ) : EReal)) (j : Fin 512)
include hv

/-- The kernel's interval number, as a real number. -/
theorem pay5_apply : k0_pay5 v (ix2 j 0) = ((cell (q j) : ℝ) : EReal) := by
  pointwise [k0_pay5, k0_pay4]
  rw [hv, Ideal.liftRound_coe, ← cell_rounded]
  exact (EReal.coe_strictMono.monotone.map_max (a := ((⌈q j⌉ : ℤ) : ℝ) - 1) (b := 0)).symm

/-- The kernel's place within the interval. -/
theorem pay6_apply : k0_pay6 v (ix2 j 0) = ((frac (q j) : ℝ) : EReal) := by
  pointwise [k0_pay6, k0_pay4]
  rw [hv, pay5_apply v q hv, ← EReal.coe_sub]
  rfl

/-- The square of a query's place within its interval. -/
theorem pay7_apply : k0_pay7 v (ix2 j 0) = ((frac (q j) * frac (q j) : ℝ) : EReal) := by
  pointwise [k0_pay7]
  rw [pay6_apply v q hv, ← EReal.coe_mul]

/-- The cube of a query's place within its interval. -/
theorem pay8_apply : k0_pay8 v (ix2 j 0) = ((frac (q j) * frac (q j) * frac (q j) : ℝ) : EReal) := by
  pointwise [k0_pay8]
  rw [pay6_apply v q hv, pay7_apply v q hv, ← EReal.coe_mul]

/-- The first Hermite polynomial. -/
theorem pay9_apply : k0_pay9 v (ix2 j 0) = ((g0 (frac (q j)) : ℝ) : EReal) := by
  pointwise [k0_pay9]
  rw [pay7_apply v q hv, pay8_apply v q hv, bits_two, bits_three]
  rfl

/-- The second Hermite polynomial. -/
theorem pay10_apply : k0_pay10 v (ix2 j 0) = ((g1 (frac (q j)) : ℝ) : EReal) := by
  pointwise [k0_pay10]
  rw [pay6_apply v q hv, pay7_apply v q hv, pay8_apply v q hv, bits_two]
  rfl

/-- The third Hermite polynomial. -/
theorem pay11_apply : k0_pay11 v (ix2 j 0) = ((g2 (frac (q j)) : ℝ) : EReal) := by
  pointwise [k0_pay11]
  rw [pay7_apply v q hv, pay8_apply v q hv, bits_two, bits_three]
  rfl

/-- The fourth Hermite polynomial. -/
theorem pay12_apply : k0_pay12 v (ix2 j 0) = ((g3 (frac (q j)) : ℝ) : EReal) := by
  pointwise [k0_pay12]
  rw [pay7_apply v q hv, pay8_apply v q hv]
  rfl

/-- The kernel's interval number, as a word. -/
theorem pay13_apply (hq : q j ≤ 510) : k0_pay13 v (ix2 j 0) = BitVec.ofNat 32 (cell (q j)) := by
  pointwise [k0_pay13]
  rw [pay5_apply v q hv]
  exact fptosi_nat _ (by have := cell_le hq; omega)

/-- The second axis's interval number, as a real number. -/
theorem pay15_apply : k0_pay15 v (ix2 j 0) = ((cell (q j) : ℝ) : EReal) := pay5_apply v q hv j
/-- The second axis's place within the interval. -/
theorem pay16_apply : k0_pay16 v (ix2 j 0) = ((frac (q j) : ℝ) : EReal) := pay6_apply v q hv j
/-- The second axis's square. -/
theorem pay17_apply : k0_pay17 v (ix2 j 0) = ((frac (q j) * frac (q j) : ℝ) : EReal) := pay7_apply v q hv j
/-- The second axis's cube. -/
theorem pay18_apply : k0_pay18 v (ix2 j 0) = ((frac (q j) * frac (q j) * frac (q j) : ℝ) : EReal) := pay8_apply v q hv j

/-- The second axis's interval number, as a word. -/
theorem pay24_apply (hq : q j ≤ 510) : k0_pay24 (k0_pay15 v) (ix2 j 0) = BitVec.ofNat 32 (cell (q j)) :=
  pay13_apply v q hv j hq

/-- The number of the second axis's right knot, as a word. -/
theorem pay27_apply (hq : q j ≤ 510) : k0_pay27 (k0_pay15 v) (ix2 j 0) = BitVec.ofNat 32 (cell (q j) + 1) := by
  have h : k0_pay27 (k0_pay15 v) (ix2 j 0) = IntOp.addi (k0_pay24 (k0_pay15 v) (ix2 j 0)) 1#32 := by
    pointwise [k0_pay27]
  rw [h, pay24_apply v q hv j hq]
  exact (BitVec.ofNat_add ..).symm

/-- The second Hermite polynomial on the second axis. -/
theorem pay21_apply : k0_pay21 (k0_pay16 v) (k0_pay17 v) (k0_pay18 v) (ix2 j 0) = ((g1 (frac (q j)) : ℝ) : EReal) := by
  pointwise [k0_pay21]
  rw [pay16_apply v q hv, pay17_apply v q hv, pay18_apply v q hv, bits_two]
  rfl

/-- The third Hermite polynomial on the second axis. -/
theorem pay22_apply : k0_pay22 (k0_pay17 v) (k0_pay18 v) (ix2 j 0) = ((g2 (frac (q j)) : ℝ) : EReal) := by
  pointwise [k0_pay22]
  rw [pay17_apply v q hv, pay18_apply v q hv, bits_two, bits_three]
  rfl

/-- The fourth Hermite polynomial on the second axis. -/
theorem pay23_apply : k0_pay23 (k0_pay17 v) (k0_pay18 v) (ix2 j 0) = ((g3 (frac (q j)) : ℝ) : EReal) := by
  pointwise [k0_pay23]
  rw [pay17_apply v q hv, pay18_apply v q hv]
  rfl

/-- The gathered table of the kernel: a row holds a query's weights on the values of a line. -/
theorem pay25_apply (hq : q j ≤ 510) (k : Fin 512) :
    k0_pay25 (k0_pay9 v) (k0_pay10 v) (k0_pay11 v) (k0_pay12 v) (k0_pay13 v) (ix2 j k) = ((wx (q j) k : ℝ) : EReal) := by
  have hc := cell_le hq
  pointwise [k0_pay25]
  rw [pay9_apply v q hv, pay10_apply v q hv, pay11_apply v q hv, pay12_apply v q hv, pay13_apply v q hv j hq]
  rw [show IntOp.addi (BitVec.ofNat 32 (cell (q j))) 1#32 = BitVec.ofNat 32 (cell (q j) + 1) from (BitVec.ofNat_add ..).symm,
    show IntOp.addi (BitVec.ofNat 32 (cell (q j))) 2#32 = BitVec.ofNat 32 (cell (q j) + 2) from (BitVec.ofNat_add ..).symm,
    ← EReal.coe_sub, ← EReal.coe_add, ← EReal.coe_sub]
  erw [spike_word _ (by omega), spike_word _ (by omega), spike_word _ (by omega)]
  rfl

/-- The left half of the value table of the second pass. -/
theorem pay26_apply (hq : q j ≤ 510) (k : Fin 512) :
    k0_pay26 (k0_pay15 v) (k0_pay18 v) (k0_pay19 v) k0_pay20 (ix2 j k)
      = ((spike (cell (q j)) (g0 (frac (q j))) k : ℝ) : EReal) := by
  have hc := cell_le hq
  pointwise [k0_pay26, k0_pay19, k0_pay20]
  rw [pay24_apply v q hv j hq, pay17_apply v q hv, pay18_apply v q hv, bits_two, bits_three]
  exact spike_word _ (by omega) k (g0 (frac (q j)))

end column

/-- A finite sum of real numbers, taken among the extended ones. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section tables

variable (x y : Vec Ideal S512x1 .f32) (p q : Fin 512 → ℝ) (hx : ∀ j, x (ix2 j 0) = ((p j : ℝ) : EReal))
  (hy : ∀ j, y (ix2 j 0) = ((q j : ℝ) : EReal)) (hp : ∀ j, p j ≤ 510) (hq : ∀ j, q j ≤ 510) (t k : Fin 512)

include hy hq

/-- The kernel's slope table. -/
theorem tableD_apply : tableD y (ix2 t k) = ((ws (q t) k : ℝ) : EReal) := by
  have hc := cell_le (hq t)
  pointwise [tableD, k0_pay1, cols]
  rw [pay21_apply y q hy, pay23_apply y q hy, pay24_apply y q hy t (hq t)]
  rw [show IntOp.addi (BitVec.ofNat 32 (cell (q t))) 1#32 = BitVec.ofNat 32 (cell (q t) + 1) from (BitVec.ofNat_add ..).symm,
    show IntOp.addi (BitVec.ofNat 32 (cell (q t))) 2#32 = BitVec.ofNat 32 (cell (q t) + 2) from (BitVec.ofNat_add ..).symm,
    ← EReal.coe_sub, ← EReal.coe_zero, ← EReal.coe_sub]
  erw [spike_word _ (by omega), spike_word _ (by omega), spike_word _ (by omega)]
  rfl

include hx hp

/-- The kernel's value table: the two passes' weights multiplied. -/
theorem tableC_apply : tableC x y (ix2 t k) = ((∑ j, wv (q t) j * wx (p j) k : ℝ) : EReal) := by
  have hc := cell_le (hq t)
  rw [coe_sum]
  pointwise [tableC, k0_pay2, cols]
  refine Finset.sum_congr rfl fun j _ => ?_
  rw [pay26_apply y q hy t (hq t) j, pay27_apply y q hy t (hq t), pay22_apply y q hy,
    pay25_apply x p hx j (hp j) k]
  erw [spike_word _ (by omega)]
  rfl

/-- The kernel's result entry. -/
theorem pay3_apply (s : Vec Ideal S1x512x512 .f32) (z : Fin 512 → Fin 512 → ℝ)
    (hs : ∀ a b, s (ix3 0 a b) = ((z a b : ℝ) : EReal)) (r : Fin 512) :
    k0_pay3 s (tableC x y) (tableD y) (ix3 0 t r)
      = ((interp (ext fun j => interp (ext (z r)) (slope (ext (z r))) (p j)) (slope (ext fun k => z k r)) (q t) : ℝ) : EReal) := by
  rw [← two_pass hp (hq t) (z r) (fun k => z k r), EReal.coe_add, coe_sum, coe_sum]
  pointwise [k0_pay3]
  congr 1 <;> refine Finset.sum_congr rfl fun k _ => ?_
  · rw [tableC_apply x y p q hx hy hp hq, hs, ← EReal.coe_mul]
  · rw [tableD_apply y q hy hq, hs, ← EReal.coe_mul]

end tables

end Cert.KernelIdeal.Tables
-- ==== Proof.Gathers.lean ====
/-
  The reference's gathers and its knot count, read entry by entry.
-/
module

public import proofs.«01_k».proof.Proof.Gen.ReferenceIdeal.Read
public import proofs.«01_k».proof.Proof.Hermite
public import Idealize.ShloMosaic.Lib.Pointwise
public import Idealize.ShloMosaic.Lib.StableHlo.Predicate

@[expose] public section

set_option maxRecDepth 16384

noncomputable section

namespace Cert.ReferenceIdeal.Interp

open Idealize.ShloMosaic Idealize.SL.Sem
open Idealize.ShloMosaic.StableHlo.Predicate (toNat_reduce_count_cols gather_take ij ixP)
open Cert.ReferenceIdeal Cert.ReferenceIdeal.Gen Cert.ReferenceIdeal.Read Cert.Hermite

/-- A place in range, read back from its word and clamped, is itself. -/
theorem clamp_word {n N : ℕ} (h : n ≤ N) (hN : N ≤ 1000) : min (BitVec.ofNat 32 n).toInt.toNat N = n := by
  have h1 : (BitVec.ofNat 32 n).toInt = n := by
    rw [BitVec.toInt_eq_toNat_of_lt (by rw [BitVec.toNat_ofNat]; omega), BitVec.toNat_ofNat]
    omega
  rw [h1]
  omega

/-- A row of the column vector, written in either way. -/
theorem ixP_eq (p : Fin 512) : (ixP p : S512x1.Idx) = ix2 p 0 := by
  funext a
  match a with
  | ⟨0, _⟩ => rfl
  | ⟨1, _⟩ => rfl

/-- An entry's place in a vector, written in either way. -/
theorem ofFin_eq (p : Fin 512) : (Shape.Idx.ofFin p : S512.Idx) = ix1 p := by
  funext a
  match a with
  | ⟨0, _⟩ => rfl

/-- Taking an entry of a vector at a place in range. -/
theorem take_apply (x : S512.Idx → EReal) (idx : IVec S512x1 32) (p : Fin 512) (n : ℕ) (hn : n < 512)
    (h : idx (ix2 p 0) = BitVec.ofNat 32 n) :
    Host.gather gather_S512_S512x1_S512_n_0_n_n_0_1_1 x idx (ix1 p) = x (ix1 ⟨n, hn⟩) := by
  have e := gather_take gather_S512_S512x1_S512_n_0_n_n_0_1_1 rfl rfl rfl rfl x idx p (by omega)
  rw [← ofFin_eq p, ← ofFin_eq]
  refine e.trans ?_
  congr 2
  apply Fin.ext
  show min (idx (ixP p)).toInt.toNat 511 = n
  rw [ixP_eq, h]
  exact clamp_word (by omega) (by omega)

/-- Taking, along the last axis, a place in range of an array of lines. -/
theorem takeLast_apply {A B N n : ℕ} (d : GatherDims ⟨3, ![A, B, N]⟩ ⟨2, ![n, 1]⟩ ⟨3, ![A, B, n]⟩)
    (hoff : d.offsetDims = [0, 1]) (hcoll : d.collapsedSliceDims = [2]) (hob : d.operandBatchingDims = [])
    (hsim : d.startIndexMap = [2]) (hivd : d.indexVectorDim = 1)
    (x : (⟨3, ![A, B, N]⟩ : Shape).Idx → EReal) (idx : IVec ⟨2, ![n, 1]⟩ 32) (b : Fin A) (r : Fin B) (p : Fin n) (c : Fin N)
    (hN : N ≤ 1000) (h : idx (ix2 p 0) = BitVec.ofNat 32 c.val) :
    Host.gather d x idx (ix3 b r p) = x (ix3 b r c) := by
  have hkept : d.sKept = [0, 1] := by
    unfold GatherDims.sKept
    rw [hcoll, hob]
    rfl
  have hbatch : d.batchDims = [2] := by
    unfold GatherDims.batchDims
    rw [hoff]
    rfl
  have hsi : d.siKept = [0] := by
    unfold GatherDims.siKept
    rw [hivd]
    rfl
  have e0 : ∀ X : Fin 3, X = 0 → (ix3 b r p X).val = b.val := by rintro _ rfl; rfl
  have e1 : ∀ X : Fin 3, X = 1 → (ix3 b r p X).val = r.val := by rintro _ rfl; rfl
  have e2 : ∀ X : Fin 3, X = 2 → (ix3 b r p X).val = p.val := by rintro _ rfl; rfl
  unfold Host.gather
  congr 1
  funext a
  apply Fin.ext
  have hb : a ∉ d.operandBatchingDims := by rw [hob]; exact List.not_mem_nil
  match a, hb with
  | ⟨0, h0⟩, hb =>
    have hm : (⟨0, h0⟩ : Fin 3) ∉ d.startIndexMap := by rw [hsim]; simp
    have hk : (⟨0, h0⟩ : Fin 3) ∈ d.sKept := by rw [hkept]; simp
    simp only [GatherDims.operandIdx, GatherDims.batchCoord_eq_zero _ _ _ hb, GatherDims.start, dif_neg hm,
      GatherDims.offCoord, dif_pos hk, Nat.zero_add]
    exact e0 _ (by simp [hoff, hkept])
  | ⟨1, h1⟩, hb =>
    have hm : (⟨1, h1⟩ : Fin 3) ∉ d.startIndexMap := by rw [hsim]; simp
    have hk : (⟨1, h1⟩ : Fin 3) ∈ d.sKept := by rw [hkept]; simp
    simp only [GatherDims.operandIdx, GatherDims.batchCoord_eq_zero _ _ _ hb, GatherDims.start, dif_neg hm,
      GatherDims.offCoord, dif_pos hk, Nat.zero_add]
    exact e1 _ (by simp [hoff, hkept])
  | ⟨2, h2⟩, hb =>
    have hk : (⟨2, h2⟩ : Fin 3) ∉ d.sKept := by rw [hkept]; simp
    have hm : (⟨2, h2⟩ : Fin 3) ∈ d.startIndexMap := by rw [hsim]; simp
    have hsl : d.sliceSizes ⟨2, h2⟩ = 1 := d.slice_collapsed _ (by rw [hcoll]; simp)
    simp only [GatherDims.operandIdx, GatherDims.batchCoord_eq_zero _ _ _ hb, GatherDims.offCoord_eq_zero _ _ _ hk,
      Nat.add_zero, GatherDims.start, dif_pos hm]
    show min (idx _).toInt.toNat (N - d.sliceSizes ⟨2, h2⟩) = c.val
    have hidx : ∀ e, d.siIdx (ix3 b r p) e = ix2 p 0 := by
      intro e
      funext z
      match z with
      | ⟨0, _⟩ =>
        unfold GatherDims.siIdx
        rw [dif_neg (by rw [hivd]; simp)]
        unfold GatherDims.siCoord
        apply Fin.ext
        simp only [Fin.val_cast]
        exact e2 _ (by simp [hbatch, hsi])
      | ⟨1, _⟩ => exact Subsingleton.elim (α := Fin 1) _ _
    rw [hidx, h, hsl]
    exact clamp_word (by omega) (by omega)

end Cert.ReferenceIdeal.Interp
-- ==== Proof.Interp.lean ====
/-
  The reference's value, read entry by entry as real numbers.

  The axes hold the knots 0..511, the queries are real numbers of at most 510 and the image's entries are real. Then one
  pass of the reference is `Hermite.interp`, and its result the interpolation of the interpolated rows.
-/
module

public import proofs.«01_k».proof.Proof.Gathers

@[expose] public section

set_option maxRecDepth 16384

noncomputable section

namespace Cert.ReferenceIdeal.Interp

open Idealize.ShloMosaic Idealize.SL.Sem
open Idealize.ShloMosaic.StableHlo.Predicate (toNat_reduce_count_cols ij)
open Cert.ReferenceIdeal Cert.ReferenceIdeal.Gen Cert.ReferenceIdeal.Read Cert.Hermite

/-- The type of the reference's vectors. -/
abbrev Line : Type := BufTy.Contents (Elt Ideal) ⟨S512, .f32⟩
/-- The type of the reference's images. -/
abbrev Images : Type := BufTy.Contents (Elt Ideal) ⟨S32x512x512, .f32⟩

/-- A quotient by one. -/
theorem div_one_coe (a : ℝ) : Ideal.div ((a : ℝ) : EReal) ((1 : ℝ) : EReal) = ((a : ℝ) : EReal) := by
  simp [Ideal.div]

section line

variable (k x : Line) (q : Fin 512 → ℝ) (hk : ∀ j : Fin 512, k (ix1 j) = ((j.val : ℝ) : EReal))
  (hx : ∀ j, x (ix1 j) = ((q j : ℝ) : EReal)) (hq : ∀ j, q j ≤ 510) (p : Fin 512)

include hk hx hq

/-- The reference counts the inner knots below a query: its interval's number. -/
theorem count_apply : val_main_v24 k x (ix1 p) = BitVec.ofNat 32 (cell (q p)) := by
  have hc := cell_le (hq p)
  apply BitVec.eq_of_toNat_eq
  rw [BitVec.toNat_ofNat, Nat.mod_eq_of_lt (by omega)]
  refine (toNat_reduce_count_cols (by norm_num) (val_main_v22 k x) natLt_1_32 reducesTo_S512x510_S512_d1 h_S_ (ix1 p)).trans ?_
  rw [← card_knots (hq p)]
  congr 1
  refine Finset.filter_congr fun i _ => ?_
  have e : val_main_v22 k x (ix2 p i) = BitVec.ofBool (decide (((i.val + 1 : ℕ) : ℝ) < q p)) := by
    pointwise [val_main_v22, val_main_v20, val_main_v21, val_main_v18, val_main_v19, val_main_v17]
    rw [hk, hx]
    congr 2
    refine (EReal.coe_lt_coe_iff (x := ((1 + i.val : ℕ) : ℝ)) (y := q p)).trans ?_ |> propext
    rw [Nat.add_comm 1]
  have e' : val_main_v22 k x (ij p i) = val_main_v22 k x (ix2 p i) := by
    congr 1
  show val_main_v22 k x (ij p i) = 1#1 ↔ _
  rw [e', e]
  generalize ((i.val + 1 : ℕ) : ℝ) = u
  by_cases h : u < q p <;> simp [h]

/-- The place gathered for a query is its interval's number. -/
theorem place_apply : val_main_call0_v0 k x (ix2 p 0) = BitVec.ofNat 32 (cell (q p)) := by
  have e : val_main_call0_v0 k x (ix2 p 0) = val_main_v24 k x (ix1 p) := by pointwise [val_main_call0_v0]
  rw [e, count_apply k x q hk hx hq]

/-- The next place gathered for a query is the number after its interval's. -/
theorem next_apply : val_main_call1_v0 k x (ix2 p 0) = BitVec.ofNat 32 (cell (q p) + 1) := by
  have e : val_main_call1_v0 k x (ix2 p 0) = IntOp.addi (val_main_v24 k x (ix1 p)) 1#32 := by
    pointwise [val_main_call1_v0, val_main_v27, val_main_v26, val_main_c_0]
  rw [e, count_apply k x q hk hx hq]
  exact (BitVec.ofNat_add ..).symm

/-- The interval's left knot. -/
theorem left_apply : val_main_v25 k x (ix1 p) = ((cell (q p) : ℝ) : EReal) := by
  have hc := cell_le (hq p)
  unfold val_main_v25
  rw [take_apply k _ p (cell (q p)) (by omega) (place_apply k x q hk hx hq p), hk]

/-- The interval's length. -/
theorem length_apply : val_main_v29 k x (ix1 p) = ((1 : ℝ) : EReal) := by
  have hc := cell_le (hq p)
  have e : val_main_v29 k x (ix1 p) = val_main_v28 k x (ix1 p) - val_main_v25 k x (ix1 p) := by pointwise [val_main_v29]
  rw [e, left_apply k x q hk hx hq]
  unfold val_main_v28
  rw [take_apply k _ p (cell (q p) + 1) (by omega) (next_apply k x q hk hx hq p), hk, ← EReal.coe_sub]
  congr 1
  push_cast
  ring

/-- The query's place within its interval. -/
theorem frac_apply : val_main_v31 k x (ix1 p) = ((frac (q p) : ℝ) : EReal) := by
  have e : val_main_v31 k x (ix1 p) = Ideal.div (x (ix1 p) - val_main_v25 k x (ix1 p)) (val_main_v29 k x (ix1 p)) := by
    pointwise [val_main_v31, val_main_v30]
  rw [e, left_apply k x q hk hx hq, length_apply k x q hk hx hq, hx, ← EReal.coe_sub, div_one_coe]
  rfl

/-- The first Hermite polynomial. -/
theorem poly0_apply : val_main_v46 k x (ix1 p) = ((g0 (frac (q p)) : ℝ) : EReal) := by
  pointwise [val_main_v46, val_main_v45, val_main_v44, val_main_v43, val_main_v42, val_main_v41, val_main_v40, val_main_v39,
    val_main_v38, val_main_v37, val_main_v36, val_main_v35, val_main_v34, val_main_v33, val_main_v32, val_main_cst, val_main_cst_1,
    val_main_cst_2, val_main_cst_3, val_main_cst_4]
  rw [frac_apply k x q hk hx hq, bits_two, bits_neg_three]
  simp only [← EReal.coe_mul, ← EReal.coe_add, ← EReal.coe_one, ← EReal.coe_zero]
  congr 1
  unfold g0
  ring

/-- The second Hermite polynomial. -/
theorem poly1_apply : val_main_v57 k x (ix1 p) = ((g1 (frac (q p)) : ℝ) : EReal) := by
  pointwise [val_main_v57, val_main_v56, val_main_v55, val_main_v54, val_main_v53, val_main_v52, val_main_v51, val_main_v50,
    val_main_v49, val_main_v48, val_main_v47, val_main_v35, val_main_v34, val_main_v33, val_main_v32, val_main_cst, val_main_cst_5,
    val_main_cst_6, val_main_cst_7, val_main_cst_8]
  rw [frac_apply k x q hk hx hq, bits_neg_two]
  simp only [← EReal.coe_mul, ← EReal.coe_add, ← EReal.coe_one, ← EReal.coe_zero]
  congr 1
  unfold g1
  ring

/-- The third Hermite polynomial. -/
theorem poly2_apply : val_main_v68 k x (ix1 p) = ((g2 (frac (q p)) : ℝ) : EReal) := by
  pointwise [val_main_v68, val_main_v67, val_main_v66, val_main_v65, val_main_v64, val_main_v63, val_main_v62, val_main_v61,
    val_main_v60, val_main_v59, val_main_v58, val_main_v35, val_main_v34, val_main_v33, val_main_v32, val_main_cst, val_main_cst_9,
    val_main_cst_10, val_main_cst_11, val_main_cst_12]
  rw [frac_apply k x q hk hx hq, bits_three, bits_neg_two]
  simp only [← EReal.coe_mul, ← EReal.coe_add, ← EReal.coe_one, ← EReal.coe_zero]
  congr 1
  unfold g2
  ring

/-- The fourth Hermite polynomial. -/
theorem poly3_apply : val_main_v79 k x (ix1 p) = ((g3 (frac (q p)) : ℝ) : EReal) := by
  pointwise [val_main_v79, val_main_v78, val_main_v77, val_main_v76, val_main_v75, val_main_v74, val_main_v73, val_main_v72,
    val_main_v71, val_main_v70, val_main_v69, val_main_v35, val_main_v34, val_main_v33, val_main_v32, val_main_cst, val_main_cst_13,
    val_main_cst_14, val_main_cst_15, val_main_cst_16]
  rw [frac_apply k x q hk hx hq, bits_neg_one]
  simp only [← EReal.coe_mul, ← EReal.coe_add, ← EReal.coe_one, ← EReal.coe_zero]
  congr 1
  unfold g3
  ring

/-- The slopes between neighbouring values of the images' rows. -/
theorem slope_apply (s : Images) (z : Fin 32 → Fin 512 → Fin 512 → ℝ) (hs : ∀ b r c, s (ix3 b r c) = ((z b r c : ℝ) : EReal))
    (b : Fin 32) (r : Fin 512) (n : Fin 511) :
    val_main_v8 k s (ix3 b r n) = ((slope (ext (z b r)) n.val : ℝ) : EReal) := by
  have hn := n.isLt
  pointwise [val_main_v8, val_main_v4, val_main_v7, val_main_v2, val_main_v3, val_main_v5, val_main_v6, val_main_v0]
  rw [hs, hs, hk, hk, ← EReal.coe_sub, ← EReal.coe_sub]
  have h1 : (((1 + n.val : ℕ) : ℝ) - (n.val : ℝ)) = 1 := by push_cast; ring
  rw [h1, div_one_coe]
  congr 1
  unfold Hermite.slope
  rw [ext_of_lt _ (show n.val + 1 < 512 by omega), ext_of_lt _ (show n.val < 512 by omega)]
  simp only [Nat.add_comm 1]

end line

/-- One pass of the reference over any values and slopes: gathered at a query's interval and the next, and combined. -/
def blend (k x : Line) (v : Images) (d : BufTy.Contents (Elt Ideal) ⟨S32x512x511, .f32⟩) : Images :=
  addf (addf (addf (mulf (val_main_v82 k x)
      (Host.gather gather_S32x512x512_S512x1_S32x512x512_01_2_n_n_2_1_325121 v (val_main_call2_v0 k x)))
      (mulf (mulf (val_main_v86 k x)
        (Host.gather gather_S32x512x511_S512x1_S32x512x512_01_2_n_n_2_1_325121 d (val_main_call3_v0 k x))) (val_main_v89 k x)))
      (mulf (val_main_v96 k x)
        (Host.gather gather_S32x512x512_S512x1_S32x512x512_01_2_n_n_2_1_325121 v (val_main_call4_v0 k x))))
    (mulf (mulf (val_main_v103 k x)
      (Host.gather gather_S32x512x511_S512x1_S32x512x512_01_2_n_n_2_1_325121 d (val_main_call5_v0 k x))) (val_main_v106 k x))

/-- The first pass combines the images with the slopes of their rows. -/
theorem first_pass (x0 x3 : Line) (s : Images) : val_main_v108 x0 s x3 = blend x0 x3 s (val_main_v8 x0 s) := rfl

/-- The second pass combines the first pass's values with the slopes of the images' columns. -/
theorem second_pass (x0 x1 x3 x4 : Line) (s : Images) :
    val_main_v200 x0 x1 s x3 x4 = blend x1 x4 (val_main_v108 x0 s x3) (val_main_v8 x1 (val_main_v9 s)) := rfl

section pass

variable (k x : Line) (q : Fin 512 → ℝ) (hk : ∀ j : Fin 512, k (ix1 j) = ((j.val : ℝ) : EReal))
  (hx : ∀ j, x (ix1 j) = ((q j : ℝ) : EReal)) (hq : ∀ j, q j ≤ 510)

include hk hx hq

/-- One pass interpolates each line of values, with its slopes, at each query. -/
theorem blend_apply (v : Images) (d : BufTy.Contents (Elt Ideal) ⟨S32x512x511, .f32⟩) (b : Fin 32) (r p : Fin 512)
    (f : Fin 512 → ℝ) (g : ℕ → ℝ) (hv : ∀ c, v (ix3 b r c) = ((f c : ℝ) : EReal))
    (hd : ∀ n : Fin 511, d (ix3 b r n) = ((g n.val : ℝ) : EReal)) :
    blend k x v d (ix3 b r p) = ((interp (ext f) g (q p) : ℝ) : EReal) := by
  have hc := cell_le (hq p)
  have hplace := place_apply k x q hk hx hq p
  have hnext := next_apply k x q hk hx hq p
  have a0 := takeLast_apply gather_S32x512x512_S512x1_S32x512x512_01_2_n_n_2_1_325121 rfl rfl rfl rfl rfl v
    (val_main_call2_v0 k x) b r p ⟨cell (q p), by omega⟩ (by omega) hplace
  have a1 := takeLast_apply gather_S32x512x511_S512x1_S32x512x512_01_2_n_n_2_1_325121 rfl rfl rfl rfl rfl d
    (val_main_call3_v0 k x) b r p ⟨cell (q p), by omega⟩ (by omega) hplace
  have a2 := takeLast_apply gather_S32x512x512_S512x1_S32x512x512_01_2_n_n_2_1_325121 rfl rfl rfl rfl rfl v
    (val_main_call4_v0 k x) b r p ⟨cell (q p) + 1, by omega⟩ (by omega) hnext
  have a3 := takeLast_apply gather_S32x512x511_S512x1_S32x512x512_01_2_n_n_2_1_325121 rfl rfl rfl rfl rfl d
    (val_main_call5_v0 k x) b r p ⟨cell (q p) + 1, by omega⟩ (by omega) hnext
  have w0 : val_main_v82 k x (ix3 b r p) = val_main_v46 k x (ix1 p) := by pointwise [val_main_v82, val_main_v81]
  have w1 : val_main_v86 k x (ix3 b r p) = val_main_v57 k x (ix1 p) := by pointwise [val_main_v86, val_main_v85]
  have w2 : val_main_v96 k x (ix3 b r p) = val_main_v68 k x (ix1 p) := by pointwise [val_main_v96, val_main_v95]
  have w3 : val_main_v103 k x (ix3 b r p) = val_main_v79 k x (ix1 p) := by pointwise [val_main_v103, val_main_v102]
  have w4 : val_main_v89 k x (ix3 b r p) = val_main_v29 k x (ix1 p) := by pointwise [val_main_v89, val_main_v88]
  have w5 : val_main_v106 k x (ix3 b r p) = val_main_v29 k x (ix1 p) := by pointwise [val_main_v106, val_main_v105]
  rw [poly0_apply k x q hk hx hq] at w0
  rw [poly1_apply k x q hk hx hq] at w1
  rw [poly2_apply k x q hk hx hq] at w2
  rw [poly3_apply k x q hk hx hq] at w3
  rw [length_apply k x q hk hx hq] at w4 w5
  rw [hv] at a0 a2
  rw [hd] at a1 a3
  simp only [blend, addf, mulf, FloatOps.addf, FloatOps.mulf]
  rewrite [w0, w1, w2, w3, w4, w5, a0, a1, a2, a3]
  simp only [← EReal.coe_mul, ← EReal.coe_add]
  refine congrArg Real.toEReal ?_
  unfold Hermite.interp
  rw [ext_of_lt _ (show cell (q p) < 512 by omega), ext_of_lt _ (show cell (q p) + 1 < 512 by omega)]
  ring

end pass

/-- The reference's result entry: the interpolated rows interpolated across. -/
theorem result_apply (x0 x1 x3 x4 : Line) (s : Images) (u w : Fin 512 → ℝ) (z : Fin 32 → Fin 512 → Fin 512 → ℝ)
    (h0 : ∀ j : Fin 512, x0 (ix1 j) = ((j.val : ℝ) : EReal)) (h1 : ∀ j : Fin 512, x1 (ix1 j) = ((j.val : ℝ) : EReal))
    (h3 : ∀ j, x3 (ix1 j) = ((u j : ℝ) : EReal)) (h4 : ∀ j, x4 (ix1 j) = ((w j : ℝ) : EReal))
    (hu : ∀ j, u j ≤ 510) (hw : ∀ j, w j ≤ 510) (hs : ∀ b r c, s (ix3 b r c) = ((z b r c : ℝ) : EReal))
    (b : Fin 32) (t r : Fin 512) :
    val_main_v201 x0 x1 s x3 x4 (ix3 b t r)
      = ((interp (ext fun j => interp (ext (z b r)) (slope (ext (z b r))) (u j)) (slope (ext fun k => z b k r)) (w t) : ℝ) : EReal) := by
  have e : val_main_v201 x0 x1 s x3 x4 (ix3 b t r) = val_main_v200 x0 x1 s x3 x4 (ix3 b r t) := by pointwise [val_main_v201]
  rw [e, second_pass]
  refine blend_apply x1 x4 w h1 h4 hw _ _ b r t (fun j => interp (ext (z b r)) (slope (ext (z b r))) (u j)) _ ?_ ?_
  · intro c
    rw [first_pass]
    exact blend_apply x0 x3 u h0 h3 hu _ _ b r c (z b r) _ (fun c => hs b r c) fun n => slope_apply x0 x3 u h0 h3 hu s z hs b r n
  · intro n
    refine slope_apply x1 x4 w h1 h4 hw (val_main_v9 s) (fun b r c => z b c r) (fun b r c => ?_) b r n
    have e9 : val_main_v9 s (ix3 b r c) = s (ix3 b c r) := by pointwise [val_main_v9]
    rw [e9, hs]

end Cert.ReferenceIdeal.Interp
-- ==== Proof.InRange.lean ====
/-
  What the precondition says of the arguments: the axes hold the knots 0..511, the images are real, and the queries are
  real numbers of at most 510.
-/
module

public import proofs.«01_k».proof.Proof.Gen.Pre_in_range
public import Idealize.ShloMosaic.Lib.Pointwise

@[expose] public section

set_option maxRecDepth 16384

noncomputable section

namespace Cert.Pre_in_range

open Idealize.ShloMosaic Idealize.SL.Sem
open Cert.Pre_in_range.Facts

/-- The word of the constant 510. -/
theorem bits_limit : Ideal.ofBits .f32 0x43FF0000#32 = ((510 : ℝ) : EReal) := by
  simp [Ideal.ofBits, Ideal.ieee, -EReal.coe_mul]; norm_num
/-- The word of the constant +∞. -/
theorem bits_top : Ideal.ofBits .f32 0x7F800000#32 = ⊤ := by
  simp [Ideal.ofBits, Ideal.ieee, -EReal.coe_mul]
/-- The word of the constant −∞. -/
theorem bits_bot : Ideal.ofBits .f32 0xFF800000#32 = ⊥ := by
  simp [Ideal.ofBits, Ideal.ieee, -EReal.coe_mul]

/-- A comparison's bit is set when the comparison holds. -/
theorem of_bit {p : Prop} [Decidable p] (h : BitVec.ofBool (decide p) = 1#1) : p := by
  by_contra hp
  simp [hp] at h

/-- An extended real number of finite absolute value is a real number. -/
theorem real_of_abs (e : EReal) (h : max e (-e) < ⊤) : ∃ r : ℝ, e = ((r : ℝ) : EReal) := by
  induction e using EReal.rec with
  | bot => simp at h
  | coe r => exact ⟨r, rfl⟩
  | top => simp at h

/-- An extended real number of at most 510 and above every negative bound is a real number. -/
theorem real_of_le (e : EReal) (h : e ≤ ((510 : ℝ) : EReal)) (h' : ⊥ < e) : ∃ r : ℝ, e = ((r : ℝ) : EReal) ∧ r ≤ 510 := by
  induction e using EReal.rec with
  | bot => simp at h'
  | coe r => exact ⟨r, rfl, EReal.coe_le_coe_iff.mp h⟩
  | top => simp at h

variable [Facts] (a0 a1 : FVec Ideal S512 .f32) (a2 : FVec Ideal S32x512x512 .f32) (a3 a4 : FVec Ideal S512 .f32)

/-- A small number's word, converted to the number it stands for. -/
theorem knot_word (j : Fin 512) : FloatOps.sitofp (F := Ideal) .f32 (BitVec.ofNat 32 j.val) = ((j.val : ℝ) : EReal) := by
  have hj := j.isLt
  have h : (BitVec.ofNat 32 j.val).toInt = (j.val : ℤ) := by
    rw [BitVec.toInt_eq_toNat_of_lt (by rw [BitVec.toNat_ofNat]; omega), BitVec.toNat_ofNat]
    omega
  show (((BitVec.ofNat 32 j.val).toInt : ℝ) : EReal) = _
  rw [h]
  norm_cast

/-- Two conditions' bits together are set when both hold. -/
theorem of_and {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The first axis holds the knots. -/
theorem xaxis_knots (h : (fn a0 a1 a2 a3 a4).1 = fun _ => 1#1) (j : Fin 512) : a0 (ix1 j) = ((j.val : ℝ) : EReal) := by
  have e := congrFun h (ix1 j)
  pointwise [fn] at e
  exact (of_bit e).trans (knot_word j)

/-- The second axis holds the knots. -/
theorem yaxis_knots (h : (fn a0 a1 a2 a3 a4).2.1 = fun _ => 1#1) (j : Fin 512) : a1 (ix1 j) = ((j.val : ℝ) : EReal) := by
  have e := congrFun h (ix1 j)
  pointwise [fn] at e
  exact (of_bit e).trans (knot_word j)

/-- The images are real. -/
theorem images_real (h : (fn a0 a1 a2 a3 a4).2.2.1 = fun _ => 1#1) (b : Fin 32) (r c : Fin 512) :
    ∃ z : ℝ, a2 (ix3 b r c) = ((z : ℝ) : EReal) := by
  have e := congrFun h (ix3 b r c)
  pointwise [fn] at e
  rw [bits_top] at e
  exact real_of_abs _ (of_bit e)

/-- The queries along the first axis are real numbers of at most 510. -/
theorem xs_real (h : (fn a0 a1 a2 a3 a4).2.2.2.1 = fun _ => 1#1) (j : Fin 512) :
    ∃ r : ℝ, a3 (ix1 j) = ((r : ℝ) : EReal) ∧ r ≤ 510 := by
  have e := congrFun h (ix1 j)
  pointwise [fn] at e
  rw [bits_limit, bits_bot] at e
  exact real_of_le _ (of_and e).1 (of_and e).2

/-- The queries along the second axis are real numbers of at most 510. -/
theorem ys_real (h : (fn a0 a1 a2 a3 a4).2.2.2.2 = fun _ => 1#1) (j : Fin 512) :
    ∃ r : ℝ, a4 (ix1 j) = ((r : ℝ) : EReal) ∧ r ≤ 510 := by
  have e := congrFun h (ix1 j)
  pointwise [fn] at e
  rw [bits_limit, bits_bot] at e
  exact real_of_le _ (of_and e).1 (of_and e).2

end Cert.Pre_in_range
-- ==== Proof.Agree.lean ====
/-
  The kernel's result and the reference's, on arguments in range: entry by entry the same real number.
-/
module

public import proofs.«01_k».proof.Proof.Tables
public import proofs.«01_k».proof.Proof.Interp
public import proofs.«01_k».proof.Proof.InRange
public import proofs.«01_k».proof.Defs

@[expose] public section

set_option maxRecDepth 16384

noncomputable section

namespace Cert.Agree

open Idealize.ShloMosaic Idealize.ShloMosaic.TcCoe Idealize.SL.Sem
open Cert.Hermite

variable (m : (ℓ : Loc Cert.KernelIdeal.nD Cert.KernelIdeal.τ Cert.KernelIdeal.sig) → Buf (Elt Ideal) ℓ)
  (c : Dev Cert.KernelIdeal.nD)

/-- A column of queries holds the vector's queries. -/
theorem column_apply (v : Vec Ideal Cert.KernelIdeal.S512 .f32) (q : Fin 512 → ℝ)
    (hv : ∀ j, v (ix1 j) = ((q j : ℝ) : EReal)) (j : Fin 512) :
    shapeCast Cert.KernelIdeal.S512x1 v Cert.KernelIdeal.Facts₀.shapeCasts_S512_S512x1 (ix2 j 0) = ((q j : ℝ) : EReal) := by
  rw [← hv]
  pointwise

/-- The kernel's result entry, on real images and on real queries of at most 510. -/
theorem kernel_apply (u w : Fin 512 → ℝ) (z : Fin 32 → Fin 512 → Fin 512 → ℝ)
    (h3 : ∀ j, m ((c.tc : Thread Cert.KernelIdeal.nD Cert.KernelIdeal.τ).loc Cert.KernelIdeal.main_arg3) (ix1 j) = ((u j : ℝ) : EReal))
    (h4 : ∀ j, m ((c.tc : Thread Cert.KernelIdeal.nD Cert.KernelIdeal.τ).loc Cert.KernelIdeal.main_arg4) (ix1 j) = ((w j : ℝ) : EReal))
    (hu : ∀ j, u j ≤ 510) (hw : ∀ j, w j ≤ 510)
    (hs : ∀ b r k, m ((c.tc : Thread Cert.KernelIdeal.nD Cert.KernelIdeal.τ).loc Cert.KernelIdeal.main_arg2) (ix3 b r k)
      = ((z b r k : ℝ) : EReal))
    (b : Fin 32) (t r : Fin 512) :
    Cert.KernelIdeal.Value.G3 m c (ix3 b t r)
      = ((interp (ext fun j => interp (ext (z b r)) (slope (ext (z b r))) (u j)) (slope (ext fun k => z b k r)) (w t) : ℝ) : EReal) := by
  let S : Vec Ideal Cert.KernelIdeal.S1x512x512 .f32 := fun y =>
    m ((c.tc : Thread Cert.KernelIdeal.nD Cert.KernelIdeal.τ).loc Cert.KernelIdeal.main_arg2) (ix3 b (y 1) (y 2))
  have hS : ∀ r k, S (ix3 0 r k) = ((z b r k : ℝ) : EReal) := fun r k => hs b r k
  refine (Cert.KernelIdeal.Blocks.result_apply m c (ix3 b t r) S (fun y => ?_)).trans ?_
  · show m _ _ = m _ _
    refine congrArg _ (funext fun a => ?_)
    match a with
    | ⟨0, _⟩ => rfl
    | ⟨1, _⟩ => rfl
    | ⟨2, _⟩ => rfl
  refine Eq.trans ?_ (Cert.KernelIdeal.Tables.pay3_apply (Cert.KernelIdeal.Blocks.colX m c) (Cert.KernelIdeal.Blocks.colY m c) u w
    (column_apply _ u h3) (column_apply _ w h4) hu hw t S (z b) hS r)
  refine congrArg _ (funext fun a => ?_)
  match a with
  | ⟨0, _⟩ => rfl
  | ⟨1, _⟩ => rfl
  | ⟨2, _⟩ => rfl

/-- The two results agree on arguments in range. -/
theorem results_agree [Cert.Pre_in_range.Facts] (hpre : Cert.Pre_KernelIdeal_in_range m) :
    Cert.ReferenceIdeal.Read.val_main_v201
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G3 m c := by
  obtain ⟨p0, p1, p2, p3, p4⟩ := hpre c
  have k0 := Cert.Pre_in_range.xaxis_knots _ _ _ _ _ p0
  have k1 := Cert.Pre_in_range.yaxis_knots _ _ _ _ _ p1
  choose z hz using Cert.Pre_in_range.images_real _ _ _ _ _ p2
  choose u hu using Cert.Pre_in_range.xs_real _ _ _ _ _ p3
  choose w hw using Cert.Pre_in_range.ys_real _ _ _ _ _ p4
  funext i
  have hi : i = ix3 (n0 := 32) (n1 := 512) (n2 := 512) (i 0) (i 1) (i 2) := by
    funext a
    match a with
    | ⟨0, _⟩ => rfl
    | ⟨1, _⟩ => rfl
    | ⟨2, _⟩ => rfl
  rw [hi]
  exact (Cert.ReferenceIdeal.Interp.result_apply _ _ _ _ _ u w z k0 k1 (fun j => (hu j).1) (fun j => (hw j).1) (fun j => (hu j).2)
      (fun j => (hw j).2) hz (i 0) (i 1) (i 2)).trans
    (kernel_apply m c u w z (fun j => (hu j).1) (fun j => (hw j).1) (fun j => (hu j).2) (fun j => (hw j).2) hz (i 0) (i 1) (i 2)).symm

end Cert.Agree
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_in_range
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference on arguments in range. -/
theorem quiescent_ReferenceIdeal_pre_in_range : quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments in range, the kernel ends with the reference's result. -/
theorem algebraic_KernelIdeal_ReferenceIdeal_pre_in_range : algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v201_eq]
  simp only [StableHlo.launchContents_devRef, hagree c]
  exact Cert.Agree.results_agree m c hpre

/-- Everything claimed. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_in_range, (trivial : preserves_Kernel_KernelIdeal), algebraic_KernelIdeal_ReferenceIdeal_pre_in_range⟩

end Cert.Proof

end
